-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S50000x128 : Shape := ⟨2, ![50000, 128]⟩
abbrev S100000x16 : Shape := ⟨2, ![100000, 16]⟩
abbrev S100000x1 : Shape := ⟨2, ![100000, 1]⟩
abbrev S100000 : Shape := ⟨1, ![100000]⟩
abbrev S_ : Shape := ⟨0, ![]⟩

class Facts : Prop where
  slices_S100000x16_S100000x1_0_0 : S100000x16.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S50000x128 .f32) (main_arg1 : IVec S100000x16 32) : IVec S_ 1 :=
  let main_v0 : IVec S100000x1 32 := (extractStridedSlice S100000x1 ![0, 0] · slices_S100000x16_S100000x1_0_0) main_arg1
  let main_v1 : IVec S100000 32 := shapeCast S100000 main_v0 shapeCasts_S100000x1_S100000
  let main_c : IVec S_ 32 := constantI S_ 32 0#32
  let main_v2 : IVec S100000 32 := broadcastInDim S100000 ![] bcast_S_S100000 main_c
  let main_v3 : IVec S100000 1 := cmpi .sge main_v1 main_v2
  let main_c_0 : IVec S_ 32 := constantI S_ 32 50000#32
  let main_v4 : IVec S100000 32 := broadcastInDim S100000 ![] bcast_S_S100000 main_c_0
  let main_v5 : IVec S100000 1 := cmpi .slt main_v1 main_v4
  let main_v6 : IVec S100000 1 := andi main_v3 main_v5
  let main_c_1 : IVec S_ 1 := constantI S_ 1 1#1
  let main_v7 : IVec S_ 1 := (fun x v => Host.reduce IntOp.andi x v reducesTo_S100000_S_d0 h_S_) main_v6 main_c_1
  main_v7
-- ==== Kernel.lean ====
abbrev S50000x128 : Shape := ⟨2, ![50000, 128]⟩
abbrev S100000x16 : Shape := ⟨2, ![100000, 16]⟩
abbrev S100000x1 : Shape := ⟨2, ![100000, 1]⟩
abbrev S100000 : Shape := ⟨1, ![100000]⟩
abbrev S_ : Shape := ⟨0, ![]⟩
abbrev S2400 : Shape := ⟨1, ![2400]⟩
abbrev S102400 : Shape := ⟨1, ![102400]⟩
abbrev S102400x128 : Shape := ⟨2, ![102400, 128]⟩
abbrev S3200 : Shape := ⟨1, ![3200]⟩
abbrev S128x128 : Shape := ⟨2, ![128, 128]⟩
abbrev S128 : Shape := ⟨1, ![128]⟩
abbrev S100000x128 : Shape := ⟨2, ![100000, 128]⟩

abbrev nBuf : Table → Nat
  | .hbm => 9
  | .local .scVector .vmem => 2
  | _ => 0

abbrev bufTy : (tb : Table) → Fin (nBuf tb) → BufTy
  | .hbm, ⟨0, _⟩ => ⟨S50000x128, .f32⟩
  | .hbm, ⟨1, _⟩ => ⟨S100000x16, .i32⟩
  | .hbm, ⟨2, _⟩ => ⟨S100000x1, .i32⟩
  | .hbm, ⟨3, _⟩ => ⟨S100000, .i32⟩
  | .hbm, ⟨4, _⟩ => ⟨S_, .i32⟩
  | .hbm, ⟨5, _⟩ => ⟨S2400, .i32⟩
  | .hbm, ⟨6, _⟩ => ⟨S102400, .i32⟩
  | .hbm, ⟨7, _⟩ => ⟨S102400x128, .f32⟩
  | .hbm, ⟨8, _⟩ => ⟨S100000x128, .f32⟩
  | .local .scVector .vmem, ⟨0, _⟩ => ⟨S3200, .i32⟩
  | .local .scVector .vmem, ⟨1, _⟩ => ⟨S128x128, .f32⟩
  | _, _ => ⟨S50000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
def k0_off2 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32_0 : BitVec 32 := 3200#32
  let v3 : BitVec 32 := Scalar.muli v1 c3200_i32_0
  let v8 : BitVec 32 := Scalar.addi v3 c0_i32_6
  let c0_i32_151_r1 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x128 : Shape := ⟨2, ![50000, 128]⟩
abbrev S100000x16 : Shape := ⟨2, ![100000, 16]⟩
abbrev S1x128 : Shape := ⟨2, ![1, 128]⟩
abbrev S_ : Shape := ⟨0, ![]⟩
abbrev S50001x128 : Shape := ⟨2, ![50001, 128]⟩
abbrev S100000x1 : Shape := ⟨2, ![100000, 1]⟩
abbrev S100000 : Shape := ⟨1, ![100000]⟩
abbrev S1 : Shape := ⟨1, ![1]⟩
abbrev S1x1 : Shape := ⟨2, ![1, 1]⟩
abbrev S100000x128 : Shape := ⟨2, ![100000, 128]⟩

abbrev nBuf : Space → Nat
  | .hbm => 31
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S100000x16, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S50001x128, .f32⟩
  | .hbm, ⟨6, _⟩ => ⟨S100000x1, .i32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S1, .i32⟩
  | .hbm, ⟨17, _⟩ => ⟨S_, .i32⟩
  | .hbm, ⟨18, _⟩ => ⟨S100000x1, .i32⟩
  | .hbm, ⟨19, _⟩ => ⟨S100000x1, .i1⟩
  | .hbm, ⟨20, _⟩ => ⟨S1x1, .i32⟩
  | .hbm, ⟨21, _⟩ => ⟨S100000x1, .i32⟩
  | .hbm, ⟨22, _⟩ => ⟨S100000x1, .i1⟩
  | .hbm, ⟨23, _⟩ => ⟨S100000x1, .i1⟩
  | .hbm, ⟨24, _⟩ => ⟨S_, .i1⟩
  | .hbm, ⟨25, _⟩ => ⟨S100000, .i1⟩
  | .hbm, ⟨26, _⟩ => ⟨S100000x128, .f32⟩
  | .hbm, ⟨27, _⟩ => ⟨S100000x128, .i1⟩
  | .hbm, ⟨28, _⟩ => ⟨S_, .f32⟩
  | .hbm, ⟨29, _⟩ => ⟨S100000x128, .f32⟩
  | .hbm, ⟨30, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Pre.lean ====
/-
  The precondition, read: every row number in column 0 of the second argument is one of a row of the table.
-/
module

public import proofs.«01_k».proof.Proof.Gen.Pre_idx_in_rows
public import Idealize.ShloMosaic.Lib.Pointwise
public import Idealize.ShloMosaic.Lib.ReduceAll
public import Idealize.ShloMosaic.Lib.StableHlo.Predicate

@[expose] public section

noncomputable section

namespace Cert.Proof

open Cert.Pre_idx_in_rows Cert.Pre_idx_in_rows.Gen
open Idealize.ShloMosaic

/-- A word that is at least 0 and below 50000, both read signed, is below 50000. -/
theorem toNat_lt_of_signed (w : BitVec 32) (h0 : IntOp.cmpi .sge w 0#32 = 1#1) (h1 : IntOp.cmpi .slt w 50000#32 = 1#1) : w.toNat < 50000 := by
  simp only [IntOp.cmpi, StableHlo.Predicate.ofBool_eq_one_iff, BitVec.sle_iff_toInt_le, BitVec.slt_iff_toInt_lt] at h0 h1
  have e0 : (0#32).toInt = 0 := rfl
  have e1 : (50000#32).toInt = 50000 := rfl
  have ew := BitVec.toInt_eq_toNat_cond w
  have hw := w.isLt
  split at ew <;> omega

/-- Under the precondition, every row number in column 0 is below 50000. -/
theorem rows_of_pre {F : FTy → Type} [FloatOps F] (X : FVec F S50000x128 .f32) (A : IVec S100000x16 32)
    (h : Cert.Pre_idx_in_rows.fn X A = fun _ => 1#1) (r : Fin 100000) : (A (ix2 r (0 : Fin 16))).toNat < 50000 := by
  have hsub : Subsingleton S_.Idx := ⟨fun a b => funext fun x => x.elim0⟩
  unfold Cert.Pre_idx_in_rows.fn at h
  dsimp only at h
  have h' := Host.reduce_andi_all _ _ reducesTo_S100000_S_d0 h_S_ (fun x => x.elim0) (congrFun h (fun x => x.elim0)) (ix1 r)
  revert h'
  pointwise
  intro h'
  exact toNat_lt_of_signed _ (IntOp.andi_eq_one.1 h').1 (IntOp.andi_eq_one.1 h').2

end Cert.Proof

end
-- ==== Proof.Reference.lean ====
/-
  What the reference computes: it takes the rows that column 0 of its second argument names out of the table with a row
  of zeros below, and where a row number is out of range it takes NaN. With every row number below 50000 its result at
  `(r, c)` is the table's entry in that row.
-/
module

public import proofs.«01_k».proof.Defs
public import proofs.«01_k».proof.Proof.Gen.ReferenceIdeal
public import Idealize.ShloMosaic.Lib.Pointwise
public import Idealize.ShloMosaic.Lib.ReduceAll
public import Idealize.ShloMosaic.Lib.Routing.Ops

@[expose] public section

noncomputable section

namespace Cert.Proof.Reference

open Cert.ReferenceIdeal Cert.ReferenceIdeal.Gen
open Idealize.ShloMosaic

variable {F : FTy → Type} [FloatOps F]

/-- Column 0 of the second argument. -/
def rowIds (A : IVec S100000x16 32) : IVec S100000 32 :=
  shapeCast _ (extractStridedSlice S100000x1 ![0, 0] A slices_S100000x16_S100000x1_0_0) shapeCasts_S100000x1_S100000

/-- The row numbers as the gather takes them: a negative one counted from the end. -/
def rows (A : IVec S100000x16 32) : IVec S100000x1 32 :=
  broadcastInDim S100000x1 ![0] bcast_S100000_S100000x1_0
    (select (cmpi .slt (rowIds A) (broadcastInDim S100000 ![] bcast_S_S100000 (constantI S_ 32 0#32)))
      (addi (rowIds A) (broadcastInDim S100000 ![] bcast_S_S100000 (constantI S_ 32 50001#32))) (rowIds A))

/-- Whether a row number is between 0 and 50000. -/
def inside (A : IVec S100000x16 32) : IVec S100000x1 1 :=
  andi (cmpi .sge (rows A) (broadcastInDim S100000x1 ![] bcast_S_S100000x1 (constantI S_ 32 0#32)))
    (cmpi .sle (rows A) (broadcastInDim S100000x1 ![0, 1] bcast_S1x1_S100000x1_0_1 (broadcastInDim S1x1 ![1] bcast_S1_S1x1_1 (constantI S1 32 50000#32))))

/-- The table with a row of zeros below it. -/
def padded (X : FVec F S50000x128 .f32) : FVec F S50001x128 .f32 :=
  concatenate S50001x128 0 [⟨S50000x128, X⟩, ⟨S1x128, broadcastInDim S1x128 ![] bcast_S_S1x128 (constant S_ .f32 0x00000000#32)⟩]
    concatenates_S50000x128_S1x128_S50001x128_d0

/-- The reference's result. -/
def out (X : FVec F S50000x128 .f32) (A : IVec S100000x16 32) : FVec F S100000x128 .f32 :=
  select (broadcastInDim S100000x128 ![0] bcast_S100000_S100000x128_0
      (Host.reduce IntOp.andi (inside A) (constantI S_ 1 1#1) reducesTo_S100000x1_S100000_d1 h_S_))
    (Host.gather gather_S50001x128_S100000x1_S100000x128_1_0_n_n_0_1_1128 (padded X) (rows A))
    (broadcastInDim S100000x128 ![] bcast_S_S100000x128 (constant S_ .f32 0x7FC00000#32))

/-- An entry of the column. -/
theorem rowIds_apply (A : IVec S100000x16 32) (z : S100000.Idx) : rowIds A z = A (ix2 (z 0) (0 : Fin 16)) := by
  unfold rowIds
  pointwise

/-- A word below 50000 is not negative, -/
theorem not_negative (w : BitVec 32) (hw : w.toNat < 50000) : IntOp.cmpi .slt w 0#32 = 0#1 := by
  have hi : w.toInt = w.toNat := BitVec.toInt_eq_toNat_of_lt (by omega)
  have h : w.slt 0#32 = false := by rw [BitVec.slt, hi]; exact decide_eq_false (by simp)
  show BitVec.ofBool (w.slt 0#32) = 0#1
  rw [h]; rfl

/-- and is between 0 and 50000 as a signed number. -/
theorem between (w : BitVec 32) (hw : w.toNat < 50000) : IntOp.andi (IntOp.cmpi .sge w 0#32) (IntOp.cmpi .sle w 50000#32) = 1#1 := by
  have hi : w.toInt = w.toNat := BitVec.toInt_eq_toNat_of_lt (by omega)
  have h₀ : (0#32 : BitVec 32).sle w = true := by rw [BitVec.sle, hi]; exact decide_eq_true (by simp)
  have h₁ : w.sle 50000#32 = true := by
    rw [BitVec.sle, hi]; exact decide_eq_true (by rw [show (50000#32 : BitVec 32).toInt = 50000 by decide]; omega)
  show IntOp.andi (BitVec.ofBool ((0#32 : BitVec 32).sle w)) (BitVec.ofBool (w.sle 50000#32)) = 1#1
  rw [h₀, h₁]; rfl

/-- A row number that is not negative is taken as it is. -/
theorem rows_apply (A : IVec S100000x16 32) (hA : ∀ r : Fin 100000, (A (ix2 r (0 : Fin 16))).toNat < 50000) (z : S100000x1.Idx) :
    rows A z = A (ix2 (z 0) (0 : Fin 16)) := by
  have hz := hA (z 0)
  unfold rows
  pointwise
  rw [rowIds_apply, show A (ix2 ((ix1 (z 0) : S100000.Idx) 0) (0 : Fin 16)) = A (ix2 (z 0) (0 : Fin 16)) from rfl, not_negative _ hz]
  exact if_neg (by decide)

/-- Every row number is inside. -/
theorem inside_apply (A : IVec S100000x16 32) (hA : ∀ r : Fin 100000, (A (ix2 r (0 : Fin 16))).toNat < 50000) (z : S100000x1.Idx) :
    inside A z = 1#1 := by
  have hz := hA (z 0)
  have hr := rows_apply A hA z
  unfold inside
  pointwise
  rw [hr]
  exact between _ hz

/-- Above the row of zeros the padded table is the table. -/
theorem padded_apply (X : FVec F S50000x128 .f32) (b : Fin 50000) (c : Fin 128) :
    padded X (ix2 (⟨b.val, by have := b.isLt; omega⟩ : Fin 50001) c) = X (ix2 b c) := by
  unfold padded
  pointwise

/-- A choice is its first part where the mask is set. -/
theorem select_of_one {s : Shape} {α : Type} (k : IVec s 1) (a b : s.Idx → α) (i : s.Idx) (h : k i = 1#1) : select k a b i = a i := by
  unfold select Scalar.select
  rw [h]; exact if_pos rfl

/-- The reference's result at `(r, c)`: the table's entry in the row the second argument names. -/
theorem out_apply (X : FVec F S50000x128 .f32) (A : IVec S100000x16 32)
    (hA : ∀ r : Fin 100000, (A (ix2 r (0 : Fin 16))).toNat < 50000) (r : Fin 100000) (c : Fin 128) :
    out X A (ix2 r c) = X (ix2 ⟨(A (ix2 r (0 : Fin 16))).toNat, hA r⟩ c) := by
  have hmask : broadcastInDim S100000x128 ![0] bcast_S100000_S100000x128_0
      (Host.reduce IntOp.andi (inside A) (constantI S_ 1 1#1) reducesTo_S100000x1_S100000_d1 h_S_) (ix2 r c) = 1#1 :=
    Host.reduce_andi_one _ _ _ _ _ rfl (inside_apply A hA)
  have hrow := Routing.gather_row gather_S50001x128_S100000x1_S100000x128_1_0_n_n_0_1_1128 rfl rfl rfl rfl rfl (padded X) (rows A)
    r c ⟨(A (ix2 r (0 : Fin 16))).toNat, by have := hA r; omega⟩
    ((rows_apply A hA _).trans (BitVec.eq_of_toNat_eq (by rw [BitVec.toNat_ofNat]; have := hA r; exact (Nat.mod_eq_of_lt (by omega)).symm)))
    (by norm_num)
  exact (select_of_one _ _ _ _ hmask).trans (hrow.trans (padded_apply X ⟨_, hA r⟩ c))

end Cert.Proof.Reference

end
-- ==== Proof.KernelIdeal.Chunks.lean ====
/-
  The kernel's body on one vector subcore, read as what it is: one fetch of the subcore's 3200 row numbers, then
  25 chunks of the same shape, chunk `j` gathering 128 rows of the table and writing them to their place in the
  result. The printed body lists the 25 chunks one after another; here one chunk is a definition in `j`, and
  `body_eq` says that the printed body is the fetch followed by the chunks in order.
-/
module

public import proofs.«01_k».proof.Proof.Gen.KernelIdeal
public import Idealize.ShloMosaic.Lib.SparseCore.Stream

@[expose] public section

noncomputable section

namespace Cert.Proof.KernelIdeal

open Cert.KernelIdeal Cert.KernelIdeal.Gen
open Idealize.ShloMosaic Idealize.SL.Sem

variable {F : FTy → Type} [FloatOps F]

local notation "xV" => (Memref.whole Cert.KernelIdeal.main_arg0_scv : Memref Cert.KernelIdeal.sig Kind.scVector Space.hbm Cert.KernelIdeal.S50000x128 EltTy.f32)
local notation "iV" => (Memref.whole Cert.KernelIdeal.main_v3_scv : Memref Cert.KernelIdeal.sig Kind.scVector Space.hbm Cert.KernelIdeal.S102400 EltTy.i32)
local notation "oV" => (Memref.whole Cert.KernelIdeal.main_v4_scv : Memref Cert.KernelIdeal.sig Kind.scVector Space.hbm Cert.KernelIdeal.S102400x128 EltTy.f32)
local notation "sV" => (Memref.whole Cert.KernelIdeal.cc0_scratch0 : Memref Cert.KernelIdeal.sig Kind.scVector Space.vmem Cert.KernelIdeal.S3200 EltTy.i32)
local notation "rV" => (Memref.whole Cert.KernelIdeal.cc0_scratch1 : Memref Cert.KernelIdeal.sig Kind.scVector Space.vmem Cert.KernelIdeal.S128x128 EltTy.f32)

/-- The semaphore of chunk `j`'s write-out lies in the table of semaphores. -/
theorem csem_bound : ∀ j : Fin 25, (j.val + 2) + S_.numel ≤ sig.nDmaSem := by decide

/-- The semaphore of chunk `j`'s write-out. -/
abbrev csem (j : Fin 25) : DmaSems sig S_ := SemArray.consecutive (j.val + 2) S_ (csem_bound j)

/-- Chunk `j`'s 128 row numbers lie in the list of 3200. -/
theorem list_inb : ∀ j : Fin 25, ∀ a, (![128 * j.val] : Fin 1 → Nat) a + S128.size a ≤ S3200.size a := by
  intro j a
  have := j.isLt
  match a with
  | 0 => show 128 * j.val + 128 ≤ 3200; omega

/-- The subcore's 3200 row numbers in the array of all of them. -/
abbrev idxK (i : grid0.Coords) : Memref sig .scVector .hbm S3200 .i32 :=
  (iV).slice (Rect.unit (s := S102400) (k0_off1 i) S3200.size (k0_off1_inb i)) (fun _ => rfl)
/-- The table, as the gathers name it. -/
abbrev tabK : Memref sig .scVector .hbm S50000x128 .f32 :=
  (xV).slice (Rect.unit (s := S50000x128) ![0, 0] S50000x128.size inb_S50000x128_S50000x128_0_0) (fun _ => rfl)
/-- Chunk `j`'s 128 row numbers in the fetched list. -/
abbrev listK (j : Fin 25) : Memref sig .scVector .vmem S128 .i32 :=
  (sV).slice (Rect.unit (s := S3200) ![128 * j.val] S128.size (list_inb j)) (fun _ => rfl)
/-- Chunk `j`'s 128 rows of the result. -/
abbrev outK (i : grid0.Coords) (j : Fin 25) : Memref sig .scVector .hbm S128x128 .f32 :=
  (oV).slice (Rect.unit (s := S102400x128) (k0_off2 i (BitVec.ofNat 32 (128 * j.val))) S128x128.size (k0_off2_inb i j)) (fun _ => rfl)

variable (F) in
/-- The fetch of the subcore's row numbers, and its wait. -/
def fetch (i : grid0.Coords) : Prog (TpuEff nD τ sig (Elt F) Λ₀ (.scVector ((i 0).castLE hcore0) ((i 1).castLE hsub0))) PUnit := do
  Prog.lift (.enqueueDma (idxK i) (.here sV) (.dma cc0_scoped0.sem) (View.wordExact_bits rfl) (Memref.isWhole_whole _).wordExact ⟨Or.inl rfl, trivial⟩)
  Prog.lift (.waitDma2 cc0_scoped0.sem (idxK i) sV (View.wordExact_bits rfl) (Memref.isWhole_whole _).wordExact)

variable (F) in
/-- Chunk `j`: gather its 128 rows into the row buffer, wait, write the buffer to its place in the result, wait. -/
def chunk (i : grid0.Coords) (j : Fin 25) : Prog (TpuEff nD τ sig (Elt F) Λ₀ (.scVector ((i 0).castLE hcore0) ((i 1).castLE hsub0))) PUnit := do
  SparseCore.enqueueIndirectGather rfl tabK rV gathers_S50000x128_S128x128 (listK j) rfl cc0_scratch2.sem (View.wordExact_bits rfl) rfl (Or.inl rfl)
  SparseCore.waitIndirectGather cc0_scratch2.sem tabK rV (View.wordExact_bits rfl) (Memref.isWhole_whole _).wordExact
  Prog.lift (.enqueueDma rV (.here (outK i j)) (.dma (csem j).sem) (Memref.isWhole_whole _).wordExact (View.wordExact_bits rfl) ⟨Or.inl rfl, trivial⟩)
  Prog.lift (.waitDma2 (csem j).sem rV (outK i j) (Memref.isWhole_whole _).wordExact (View.wordExact_bits rfl))

variable (F) in
/-- The chunks of a list, one after another. -/
def chunks (i : grid0.Coords) : List (Fin 25) → Prog (TpuEff nD τ sig (Elt F) Λ₀ (.scVector ((i 0).castLE hcore0) ((i 1).castLE hsub0))) PUnit
  | [] => pure ⟨⟩
  | j :: l => do chunk F i j; chunks i l

/-- The 25 chunks, in order. -/
def order : List (Fin 25) := [0, 1, 2, 3, 4, 5, 6, 7, 8, 9, 10, 11, 12, 13, 14, 15, 16, 17, 18, 19, 20, 21, 22, 23, 24]

variable (F) in
/-- The kernel's body on the subcore at `i`, on the whole arrays and its own scratch, as the body table calls it. -/
abbrev bodyK (i : grid0.Coords) : Prog (TpuEff nD τ sig (Elt F) Λ₀ (.scVector ((i 0).castLE hcore0) ((i 1).castLE hsub0))) PUnit :=
  cc0_k i xV (Memref.isWhole_whole _) iV (Memref.isWhole_whole _) oV (Memref.isWhole_whole _) sV (Memref.isWhole_whole _) rV (Memref.isWhole_whole _)
    cc0_scratch2 cc0_scoped0 cc0_scoped1 cc0_scoped2 cc0_scoped3 cc0_scoped4 cc0_scoped5 cc0_scoped6 cc0_scoped7 cc0_scoped8 cc0_scoped9 cc0_scoped10
    cc0_scoped11 cc0_scoped12 cc0_scoped13 cc0_scoped14 cc0_scoped15 cc0_scoped16 cc0_scoped17 cc0_scoped18 cc0_scoped19 cc0_scoped20 cc0_scoped21
    cc0_scoped22 cc0_scoped23 cc0_scoped24 cc0_scoped25

/-- The printed body is the fetch, then the 25 chunks in order. -/
theorem body_eq (i : grid0.Coords) : bodyK F i = (do fetch F i; chunks F i order) := rfl

end Cert.Proof.KernelIdeal

end
-- ==== Proof.KernelIdeal.Gathered.lean ====
/-
  What the kernel computes. `gathered X I` is the array whose row `y` is the row of the table `X` that the list `I`
  names at `y`. One chunk of one vector subcore computes 128 of its rows (`chunk_value`): the gather's payload, written
  at the chunk's place in the result, is `gathered X I` there.
-/
module

public import proofs.«01_k».proof.Proof.KernelIdeal.Chunks

@[expose] public section

noncomputable section

namespace Cert.Proof.KernelIdeal

open Cert.KernelIdeal Cert.KernelIdeal.Gen
open Idealize.ShloMosaic Idealize.SL.Sem

variable {F : FTy → Type} [FloatOps F]

/-! ## Places in the arrays -/

/-- Row `r`, column `c` of the table. -/
def tabAt (r : Fin 50000) (c : Fin 128) : S50000x128.Idx := fun a => match a with | 0 => r | 1 => c
/-- Entry `r` of the list of row numbers. -/
def idxAt (r : Fin 102400) : S102400.Idx := fun a => match a with | 0 => r
/-- Entry `k` of one subcore's list. -/
def listAt (k : Fin 3200) : S3200.Idx := fun a => match a with | 0 => k

/-- The row of the table a word names: the word itself where it is a row number, the last row elsewhere. -/
def rowOfWord (w : BitVec 32) : Fin 50000 := ⟨min w.toNat 49999, by omega⟩

theorem rowOfWord_val {w : BitVec 32} (h : w.toNat < 50000) : (rowOfWord w).val = w.toNat := by
  show min w.toNat 49999 = w.toNat; omega

/-- The table's rows in the order the list names them. -/
def gathered (X : S50000x128.Idx → Elt F .f32) (I : S102400.Idx → Elt F .i32) : S102400x128.Idx → Elt F .f32 :=
  fun z => X (tabAt (rowOfWord (I (idxAt (z 0)))) (z 1))

/-! ## One subcore's list -/

/-- The first of the rows of the subcore at `i`. -/
def base (i : grid0.Coords) : ℕ := 6400 * (i 1).val + 3200 * (i 0).val

theorem base_le (i : grid0.Coords) : base i + 3200 ≤ 102400 := by
  have h0 : (i 0).val < 2 := (i 0).isLt
  have h1 : (i 1).val < 16 := (i 1).isLt
  unfold base; omega

/-- The subcore's list: its 3200 entries of the whole list. -/
def listOf (I : S102400.Idx → Elt F .i32) (i : grid0.Coords) : S3200.Idx → Elt F .i32 :=
  fun k => I (idxAt ⟨base i + (k 0).val, by have := base_le i; have : (k 0).val < 3200 := (k 0).isLt; omega⟩)

/-- What the fetch lands is the subcore's list. -/
theorem read_idxK (I : S102400.Idx → Elt F .i32) (i : grid0.Coords) : (idxK i).view.read (Elt F) I = listOf I i := by
  funext k
  refine (View.read_apply _ _).trans ((cast_eq _ _).trans (congrArg I ?_))
  funext a
  match a with
  | 0 =>
    apply Fin.ext
    show (k0_off1 i) 0 + 1 * (k 0).val = base i + (k 0).val
    rw [k0_off1_eq]
    show 6400 * (i 1).val + 3200 * (i 0).val + 1 * (k 0).val = base i + (k 0).val
    unfold base; omega

/-! ## One chunk -/

/-- Where element `y` of chunk `j`'s block lies in the result. -/
theorem outK_row (i : grid0.Coords) (j : Fin 25) (y : S128x128.Idx) :
    ((outK i j).view.emb y 0).val = base i + 128 * j.val + (y 0).val := by
  show (k0_off2 i (BitVec.ofNat 32 (128 * j.val))) 0 + 1 * (y 0).val = _
  rw [k0_off2_eq]
  show 6400 * (i 1).val + 3200 * (i 0).val + 128 * j.val + 1 * (y 0).val = _
  unfold base; omega
theorem outK_col (i : grid0.Coords) (j : Fin 25) (y : S128x128.Idx) : ((outK i j).view.emb y 1).val = (y 1).val := by
  show (k0_off2 i (BitVec.ofNat 32 (128 * j.val))) 1 + 1 * (y 1).val = _
  rw [k0_off2_eq]
  show 0 + 1 * (y 1).val = _
  omega

/-- The entry of the subcore's list that chunk `j`'s list names at `k`. -/
theorem read_listK (f : S3200.Idx → Elt F .i32) (j : Fin 25) (k : S128.Idx) :
    (listK j).view.read (Elt F) f k = f (listAt ⟨128 * j.val + (k 0).val, by have := j.isLt; have : (k 0).val < 128 := (k 0).isLt; omega⟩) := by
  refine (View.read_apply _ _).trans ((cast_eq _ _).trans (congrArg f ?_))
  funext a
  match a with
  | 0 =>
    apply Fin.ext
    show 128 * j.val + 1 * (k 0).val = 128 * j.val + (k 0).val
    omega

/-- Every entry of chunk `j`'s list is a row number, if every entry of the whole list is. -/
theorem listK_lt {I : S102400.Idx → Elt F .i32} (hI : ∀ z, (I z).toNat < 50000) (i : grid0.Coords) (j : Fin 25) (k : S128.Idx) :
    ((listK j).view.read (Elt F) (listOf I i) k).toNat < S50000x128.size gathers_S50000x128_S128x128.axis := by
  rw [read_listK]; exact hI _

/-- The table read as the gathers name it is the table. -/
theorem read_tabK (X : S50000x128.Idx → Elt F .f32) : (tabK).view.read (Elt F) X = X := by
  funext k
  refine (View.read_apply _ _).trans ((cast_eq _ _).trans (congrArg X ?_))
  funext a
  match a with
  | 0 => exact Fin.ext (show 0 + 1 * (k 0).val = _ by omega)
  | 1 => exact Fin.ext (show 0 + 1 * (k 1).val = _ by omega)

/-- Entry `k` of a list of 128 in row-major order is the one at `k`. -/
theorem rowMajor_S128 (k : Fin S128.numel) : ((S128.rowMajor.symm k) 0).val = k.val := by
  rw [← Shape.rowMajor_val_one, Equiv.apply_symm_apply]

/-- Chunk `j` of the subcore at `i`: what its gather lands at `y` is what `gathered X I` holds at `y`'s place in the
    result. -/
theorem chunk_value (X : S50000x128.Idx → Elt F .f32) (I : S102400.Idx → Elt F .i32) (hI : ∀ z, (I z).toNat < 50000)
    (i : grid0.Coords) (j : Fin 25) (y : S128x128.Idx)
    (hin : ∀ x, ((listK j).view.read (Elt F) (listOf I i) x).toNat < S50000x128.size gathers_S50000x128_S128x128.axis) :
    SparseCore.gatherPayload gathers_S50000x128_S128x128 ((tabK).view.read (Elt F) X) (SparseCore.rows ((listK j).view.read (Elt F) (listOf I i)) rfl hin) y
      = gathered X I ((outK i j).view.emb y) := by
  unfold SparseCore.gatherPayload gathered
  rw [read_tabK]
  refine congrArg X ?_
  have hrow : ∀ r : Fin 128, ((SparseCore.rows ((listK j).view.read (Elt F) (listOf I i)) rfl hin : Fin 128 → Fin 50000) r).val
      = (I (idxAt ⟨base i + 128 * j.val + r.val, by have := base_le i; have := j.isLt; have := r.isLt; omega⟩)).toNat := by
    intro r
    show ((listK j).view.read (Elt F) (listOf I i) _).toNat = _
    rw [read_listK]
    unfold listOf
    refine congrArg (fun z => (I (idxAt z)).toNat) (Fin.ext ?_)
    show base i + (128 * j.val + ((S128.rowMajor.symm _) 0).val) = base i + 128 * j.val + r.val
    rw [rowMajor_S128]
    show base i + (128 * j.val + r.val) = _
    omega
  funext a
  match a with
  | 0 =>
    apply Fin.ext
    refine (congrArg Fin.val (Shape.Gathers.idx_axis gathers_S50000x128_S128x128 _ y)).trans ((hrow (y 0)).trans ?_)
    refine Eq.trans ?_ (rowOfWord_val (hI _)).symm
    refine congrArg (fun z => (I (idxAt z)).toNat) (Fin.ext ?_)
    exact (outK_row i j y).symm
  | 1 =>
    apply Fin.ext
    refine (Shape.Gathers.idx_of_ne gathers_S50000x128_S128x128 _ y 1 (by decide)).trans ?_
    exact (outK_col i j y).symm

end Cert.Proof.KernelIdeal

end
-- ==== Proof.KernelIdeal.Ids.lean ====
/-
  The list of row numbers that `@main` hands to the call: column 0 of the second argument, and 2400 zeros after it.
-/
module

public import proofs.«01_k».proof.Proof.KernelIdeal.Gathered
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic

/-- Entry `(r, 0)` of the second argument. -/
abbrev colAt (r : Fin 100000) : S100000x16.Idx := ix2 r (0 : Fin 16)

/-- Column 0 of the second argument, as `@main` takes it: a slice, flattened. -/
def col (A : S100000x16.Idx → BitVec 32) : S100000.Idx → BitVec 32 :=
  shapeCast S100000 (extractStridedSlice S100000x1 ![0, 0] A slices_S100000x16_S100000x1_0_0) shapeCasts_S100000x1_S100000

/-- The list of row numbers: the column, and zeros to a multiple of the subcores' work. -/
def ids (A : S100000x16.Idx → BitVec 32) : S102400.Idx → BitVec 32 :=
  concatenate S102400 0 [⟨S100000, col A⟩, ⟨S2400, broadcastInDim S2400 ![] bcast_S_S2400 (constantI S_ 32 0#32)⟩] concatenates_S100000_S2400_S102400_d0

/-- An entry of the column. -/
theorem col_apply (A : S100000x16.Idx → BitVec 32) (z : S100000.Idx) : col A z = A (colAt (z 0)) := by
  unfold col
  pointwise

/-- An entry of the list: the column's, or 0 past its end. -/
theorem ids_apply (A : S100000x16.Idx → BitVec 32) (z : S102400.Idx) :
    ids A z = if h : (z 0).val < 100000 then A (colAt ⟨(z 0).val, h⟩) else 0#32 := by
  unfold ids col
  pointwise

/-- Every row number of the list names a row of the table, when every one of the column does. -/
theorem ids_lt (A : S100000x16.Idx → BitVec 32) (hA : ∀ r : Fin 100000, (A (colAt r)).toNat < 50000) (z : S102400.Idx) :
    (ids A z).toNat < 50000 := by
  rw [ids_apply]
  split
  · exact hA _
  · decide

variable {F : FTy → Type} [FloatOps F]

/-- What `@main` returns: the first 100000 rows of the call's result. -/
def result (X : S50000x128.Idx → Elt F .f32) (A : S100000x16.Idx → BitVec 32) : S100000x128.Idx → Elt F .f32 :=
  extractStridedSlice S100000x128 ![0, 0] (gathered (F := F) X (ids A)) slices_S102400x128_S100000x128_0_0

/-- The table's index of a row and a column. -/
theorem tabAt_eq (r : Fin 50000) (c : Fin 128) : tabAt r c = ix2 r c := by
  funext a
  match a with
  | 0 => rfl
  | 1 => rfl

/-- An entry of it: the table's, at the row the column names. -/
theorem result_apply (X : S50000x128.Idx → Elt F .f32) (A : S100000x16.Idx → BitVec 32) (r : Fin 100000) (c : Fin 128) :
    result (F := F) X A (ix2 r c) = X (ix2 (rowOfWord (A (colAt r))) c) := by
  unfold result gathered
  pointwise
  have hid : ids A (idxAt ⟨r.val, by have := r.isLt; omega⟩) = A (colAt r) := (ids_apply A _).trans (dif_pos r.isLt)
  rw [hid]
  exact congrArg X (tabAt_eq _ _)

end Cert.Proof.KernelIdeal

end
-- ==== Proof.Equation.lean ====
/-
  The kernel's result is the reference's: at every row and column both are the table's entry in the row that column 0 of
  the second argument names.
-/
module

public import proofs.«01_k».proof.Proof.KernelIdeal.Ids
public import proofs.«01_k».proof.Proof.Reference

@[expose] public section

noncomputable section

namespace Cert.Proof

open Idealize.ShloMosaic

variable {F : FTy → Type} [FloatOps F]

/-- With every row number below 50000, what the kernel returns is what the reference returns. -/
theorem result_eq_out (X : FVec F Cert.KernelIdeal.S50000x128 .f32) (A : IVec Cert.KernelIdeal.S100000x16 32)
    (hA : ∀ r : Fin 100000, (A (ix2 r (0 : Fin 16))).toNat < 50000) :
    KernelIdeal.result (F := F) X A = Reference.out X A := by
  funext z
  obtain ⟨r, c, rfl⟩ : ∃ (r : Fin 100000) (c : Fin 128), z = ix2 r c := ⟨z 0, z 1, by
    funext a
    match a with
    | 0 => rfl
    | 1 => rfl⟩
  refine (KernelIdeal.result_apply X A r c).trans (Eq.trans ?_ (Reference.out_apply X A hA r c).symm)
  exact congrArg (fun b => X (ix2 b c)) (Fin.ext (KernelIdeal.rowOfWord_val (hA r)))

end Cert.Proof

end
-- ==== Proof.KernelIdeal.Launch.lean ====
/-
  The launch's set-up: the program as the launch theorem takes it, the resources, the buffers, and what the handshakes
  carry. Each vector subcore is handed a read share of the table and of the list, and its 25 blocks of the result; it
  brings them back with the blocks at `gathered`. A SparseCore is handed what its sixteen vector subcores are.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.KernelIdeal.Gathered

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores and of the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers the call works on -/

/-- The table, the list of row numbers and the result, on device `d`. -/
abbrev xLoc (d : Dev nD) : Loc nD τ sig := (SparseCore.T d).loc main_arg0
abbrev iLoc (d : Dev nD) : Loc nD τ sig := (SparseCore.T d).loc main_v3
abbrev oLoc (d : Dev nD) : Loc nD τ sig := (SparseCore.T d).loc main_v4

/-- The elements of the result that chunk `j` of the subcore at `i` writes. -/
abbrev outSet (i : grid0.Coords) (j : Fin 25) : Finset S102400x128.Idx := (outK i j).view.set

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of SparseCore `c`: half of the whole. -/
abbrev coreShare (c : Fin 2) : PosShare TreeShare := pieceOf fullShare 2 (by decide) c
/-- The read share of the subcore at `i`: a sixteenth of its SparseCore's. -/
abbrev tileShare (i : grid0.Coords) : PosShare TreeShare := pieceOf (coreShare (i 0)) 16 (by decide) (i 1)

variable [FloatOps F]

-- the call's arguments and the result before it, on each device
variable (X : (d : Dev nD) → Buf (Elt F) (xLoc d)) (I : (d : Dev nD) → Buf (Elt F) (iLoc d)) (R : (d : Dev nD) → Buf (Elt F) (oLoc d))

/-- The result after the call: the table's rows in the order the list names them. -/
def G (d : Dev nD) : Buf (Elt F) (oLoc d) := gathered (X d) (I d)

/-- A read share of the table and of the list. -/
abbrev readPts (d : Dev nD) (q : PosShare TreeShare) : sProp 𝕄 := iprop((xLoc d ↦{q} X d) ∗ iLoc d ↦{q} I d)
/-- The blocks of the result that the subcore at `i` writes, at the contents `f`. -/
abbrev outPts (d : Dev nD) (i : grid0.Coords) (f : Buf (Elt F) (oLoc d)) : sProp 𝕄 :=
  bigSep Finset.univ fun j : Fin 25 => oLoc d ↦[outSet i j]{fullShare} f

/-- What the subcore at `i` is handed, and what it brings back. -/
def goRes (d : Dev nD) (i : grid0.Coords) : sProp 𝕄 := iprop(readPts X I d (tileShare i) ∗ outPts d i (R d))
def tdRes (d : Dev nD) (i : grid0.Coords) : sProp 𝕄 := iprop(readPts X I d (tileShare i) ∗ outPts d i (G X I d))

instance goRes_storable (d : Dev nD) (i : grid0.Coords) : BI.Storable (upEmb : UEmb _ 𝕄) (goRes X I R d i) := by
  unfold goRes; infer_instance
instance tdRes_storable (d : Dev nD) (i : grid0.Coords) : BI.Storable (upEmb : UEmb _ 𝕄) (tdRes X I d i) := by
  unfold tdRes; infer_instance

/-- What the handshakes of the one call carry: each subcore what it is handed and brings back, a SparseCore what its
    subcores are. -/
def P : (K (F := F)).Pay (nD := nD) (Val := Elt F) (Name := ℕ) (U := UU) where
  st := fun q d c => match q with | 0 => bigSep Finset.univ fun s : Fin 16 => goRes X I R d (coordsV c s)
  dn := fun q d c => match q with | 0 => bigSep Finset.univ fun s : Fin 16 => tdRes X I d (coordsV c s)
  go := fun q d c s => match q with | 0 => goRes X I R d (coordsV c s)
  td := fun q d c s => match q with | 0 => tdRes X I d (coordsV c s)
  x := fun _ _ => iprop(emp)

instance P_storable : (P X I R).IsStorable where
  st q d c := match q with
    | 0 => have (s : Fin 16) := goRes_storable X I R d (coordsV c s)
           BI.Storable.bigSep upEmb Finset.univ fun s : Fin 16 => goRes X I R d (coordsV c s)
  dn q d c := match q with
    | 0 => have (s : Fin 16) := tdRes_storable X I d (coordsV c s)
           BI.Storable.bigSep upEmb Finset.univ fun s : Fin 16 => tdRes X I d (coordsV c s)
  go q d c s := match q with | 0 => (inferInstance : BI.Storable (upEmb : UEmb _ 𝕄) (goRes X I R d (coordsV c s)))
  td q d c s := match q with | 0 => (inferInstance : BI.Storable (upEmb : UEmb _ 𝕄) (tdRes X I d (coordsV c s)))

/-- The SparseCore's operands are its subcores': the call's split between them is the identity. -/
theorem vecSplit : (K (F := F)).VecSplit' (P X I R) 0 := by
  intro d c
  show iprop(bigSep Finset.univ fun s : Fin 16 => goRes X I R d (coordsV c s)) ⊢ |={Set.univ}=> iprop(
      (bigSep Finset.univ fun s : Fin 16 => goRes X I R d (coordsV c s))
      ∗ ((bigSep Finset.univ fun s : Fin 16 => tdRes X I d (coordsV c s)) -∗ bigSep Finset.univ fun s : Fin 16 => tdRes X I d (coordsV c s)))
  iintro H; imodintro
  isplitl [H]; · iexact H
  iintro H; iexact H

end Cert.Proof.KernelIdeal

end
-- ==== Proof.KernelIdeal.Tile.lean ====
/-
  The task of one vector subcore, with what it computes: `wp_chunk` is one chunk at a symbolic `j` — the gather over the
  chunk's list, its wait, the write-out and its wait — from the chunk's block of the result at any contents to the block
  at the table's rows; `wp_chunks` repeats it along a list of chunks; `tile_body` puts the fetch before them.
-/
module

public import proofs.«01_k».proof.Proof.KernelIdeal.Launch

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S50000x128 EltTy.f32)
local notation "iV" => (Memref.whole Cert.KernelIdeal.main_v3_scv : Memref Cert.KernelIdeal.sig Kind.scVector Space.hbm Cert.KernelIdeal.S102400 EltTy.i32)
local notation "sV" => (Memref.whole Cert.KernelIdeal.cc0_scratch0 : Memref Cert.KernelIdeal.sig Kind.scVector Space.vmem Cert.KernelIdeal.S3200 EltTy.i32)
local notation "rV" => (Memref.whole Cert.KernelIdeal.cc0_scratch1 : Memref Cert.KernelIdeal.sig Kind.scVector Space.vmem Cert.KernelIdeal.S128x128 EltTy.f32)

variable (X : (d : Dev nD) → Buf (Elt F) (xLoc d)) (I : (d : Dev nD) → Buf (Elt F) (iLoc d)) (R : (d : Dev nD) → Buf (Elt F) (oLoc d))

/-! ## The subcore's thread and its semaphores -/

/-- The vector subcore at grid point `i` of device `d`. -/
abbrev thr (d : Dev nD) (i : grid0.Coords) : Thread nD τ := V d ((i 0).castLE hcore0) ((i 1).castLE hsub0)

/-- Every DMA semaphore of the subcore, at zero. -/
def semsZero (d : Dev nD) (i : grid0.Coords) : sProp 𝕄 :=
  bigSep Finset.univ fun k : DmaSem sig => semVal (thr d i, SemLoc.dma k) 0

/-- One of the subcore's DMA semaphores, and the others. -/
theorem semsZero_one (d : Dev nD) (i : grid0.Coords) (k : DmaSem sig) :
    (semsZero (F := F) d i) = iprop(semVal (thr d i, SemLoc.dma k) 0 ∗ bigSep (Finset.univ.erase k) fun k' : DmaSem sig => semVal (thr d i, SemLoc.dma k') 0) :=
  SparseCore.bigSep_erase' (Finset.mem_univ k)

/-- Two of them, and the others. -/
theorem semsZero_two (d : Dev nD) (i : grid0.Coords) (k l : DmaSem sig) (h : l ≠ k) :
    (semsZero (F := F) d i) = iprop(semVal (thr d i, SemLoc.dma k) 0 ∗ semVal (thr d i, SemLoc.dma l) 0
      ∗ bigSep ((Finset.univ.erase k).erase l) fun k' : DmaSem sig => semVal (thr d i, SemLoc.dma k') 0) := by
  rw [semsZero_one, SparseCore.bigSep_erase' (Finset.mem_erase.mpr ⟨h, Finset.mem_univ l⟩)]

/-- The semaphore of a write-out is not the gathers'. -/
theorem csem_ne (j : Fin 25) : (csem j).sem ≠ cc0_scratch2.sem := by revert j; decide

/-! ## One chunk -/

/-- What a chunk works with besides its block of the result: the wait's bookkeeping aside, all of it comes back. -/
def tools (d : Dev nD) (i : grid0.Coords) : sProp 𝕄 :=
  iprop((xLoc d ↦{tileShare i} X d) ∗ ((sV).view.loc (thr d i) ↦{fullShare} listOf (I d) i) ∗ (∃ f, (rV).view.loc (thr d i) ↦{fullShare} f) ∗ semsZero d i)

/-- What the subcore owes, its waits grown by waits of its own. -/
def owesGrown (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- A chunk's block after the write-out of the gathered rows, over any contents before, is the block of the result. -/
theorem block_written (d : Dev nD) (i : grid0.Coords) (j : Fin 25) (hI : ∀ z, (I d z).toNat < 50000) (p : S128x128.Idx → Elt F .f32)
    (hin : ∀ k, ((listK j).view.read (Elt F) (listOf (I d) i) k).toNat < S50000x128.size gathers_S50000x128_S128x128.axis)
    (hp : p = SparseCore.gatherPayload gathers_S50000x128_S128x128 (tabK.view.read (Elt F) (X d))
      (SparseCore.rows ((listK j).view.read (Elt F) (listOf (I d) i)) rfl hin)) :
    ((outK i j).view.loc (thr d i) ↦[(outK i j).view.set]{fullShare} (outK i j).view.writes (Elt F) (R d) [⟨Rect.whole S128x128, p⟩] : sProp 𝕄)
      = oLoc d ↦[outSet i j]{fullShare} G X I d := by
  refine pointsTo_congr fun z hz => ?_
  obtain ⟨y, -, rfl⟩ := Finset.mem_map.mp hz
  refine (congrFun (View.read_writes_whole (outK i j).view (R d) p) y).trans ?_
  rw [hp]
  exact chunk_value (X d) (I d) hI i j y hin

set_option maxHeartbeats 4000000 in
/-- Chunk `j` of the subcore at `i`: its block of the result, at any contents before, holds the table's rows in the list's
    order after. -/
theorem wp_chunk (d : Dev nD) (i : grid0.Coords) (j : Fin 25) (hI : ∀ z, (I d z).toNat < 50000)
    (O : CellTallies nD τ sig (HIx 1)) (W : Waits sig (HIx 1)) (hO : ∀ g, O g none = 0) :
    iprop(levAts (K (F := F)).L (K (F := F)).lev ∗ tools X I d i ∗ (oLoc d ↦[outSet i j]{fullShare} R d) ∗ owes (thr d i) O W)
      ⊢ wp frame (wpE (defs₀ (F := F)) 𝒱₀ (thr d i) none) Set.univ (chunk F i j)
          fun _ => iprop(tools X I d i ∗ (oLoc d ↦[outSet i j]{fullShare} G X I d) ∗ owesGrown d i O W) := by
  unfold tools chunk
  rw [semsZero_two d i cc0_scratch2.sem (csem j).sem (csem_ne j)]
  iintro ⟨#Hlv, ⟨Hx, Hs, ⟨%fr, Hr⟩, HsemG, HsemC, Hsems⟩, Ho, HO⟩
  ihave Hmw := (show levAts (K (F := F)).L (K (F := F)).lev ⊢ Transfers.MayWaits (thr d i) (default : HIx 1) O from
    (K (F := F)).mayWaits_none (thr := thr d i) hO) $$ Hlv
  -- the gather reads the table's elements it names, and the chunk's part of the list
  have hin := listK_lt hI i j
  have hrs : (rV).view.set = Finset.univ := View.set_whole _
  ihave Hx1 := (pointsTo_split_subset (ℓ := xLoc d) (q := tileShare i) (f := X d) (S := Finset.univ) (Finset.subset_univ (tabK).view.set)).1 $$ Hx
  icases Hx1 with ⟨Hxs, Hxr⟩
  ihave Hs1 := (pointsTo_split_subset (ℓ := (sV).view.loc (thr d i)) (q := fullShare) (f := listOf (I d) i) (S := Finset.univ) (Finset.subset_univ (listK j).view.set)).1 $$ Hs
  icases Hs1 with ⟨Hss, Hsr⟩
  ihave Hr1 := (Entails.of_eq (show ((rV).view.loc (thr d i) ↦{fullShare} fr : sProp 𝕄) = (rV).view.loc (thr d i) ↦[(rV).view.set]{fullShare} fr by rw [hrs])) $$ Hr
  have hN : ∀ h : S50000x128.Gathers 0 S128x128, ∑ r, ((rV).slice (S128x128.rowRect h.axis' r) (S128x128.stride_rowRect h.axis' r)).view.dmaCredit
      = (rV).view.dmaCredit := by decide
  iapply (SparseCore.wp_indirectGatherLocal countersEmb 𝒱₀ (thr d i) none (hg := gathers_S50000x128_S128x128) (default : HIx 1)
      (rV).view.dmaCredit (hN _) (by decide) hin) $$ [Hxs Hr1 Hss HsemG]
  · isplitl [Hxs]; · iexact Hxs
    isplitl [Hr1]; · iexact Hr1
    isplitl [Hss]; · iexact Hss
    iexact HsemG
  iintro Hfl
  sl_exec
  iapply (Transfers.wp_waitLocalO countersEmb 𝒱₀ (thr d i) none (default : HIx 1) rfl) $$ [Hfl HO]
  · isplitl [Hfl]; · iexact Hfl
    isplitl [HO]; · iexact HO
    iapply (Transfers.MayWaits.elim (SemLoc.dma cc0_scratch2.sem)) $$ Hmw
  iintro ⟨⟨Hr1, Hxs, Hss⟩, HsemG, HO⟩
  ihave Hr2 := (Entails.of_eq (show ((rV).view.loc (thr d i) ↦[(rV).view.set]{fullShare} _ : sProp 𝕄) = (rV).view.loc (thr d i) ↦{fullShare} _ by rw [hrs])) $$ Hr1
  ihave Ho1 := (Entails.of_eq (show (oLoc d ↦[outSet i j]{fullShare} R d : sProp 𝕄)
    = (outK i j).view.loc (thr d i) ↦[(outK i j).view.set]{fullShare} R d from rfl)) $$ Ho
  sl_exec
  sl_step
  -- the block holds the table's rows
  ihave Ho2 := (Entails.of_eq (block_written X I R d i j hI (wp_chunk.sl.dma0 X I d i j fr hin) hin (View.read_write_univ (v := (rV).view) fr _))) $$ Ho1
  ihave Hx2 := (pointsTo_split_subset (ℓ := xLoc d) (q := tileShare i) (f := X d) (S := Finset.univ) (Finset.subset_univ (tabK).view.set)).2 $$ [Hxs Hxr]
  · isplitl [Hxs] <;> iassumption
  ihave Hs2 := (pointsTo_split_subset (ℓ := (sV).view.loc (thr d i)) (q := fullShare) (f := listOf (I d) i) (S := Finset.univ) (Finset.subset_univ (listK j).view.set)).2 $$ [Hss Hsr]
  · isplitl [Hss] <;> iassumption
  isplitl [Hx2 Hs2 Hr2 HsemG HsemC Hsems]
  · isplitl [Hx2]; · iexact Hx2
    isplitl [Hs2]; · iexact Hs2
    isplitl [Hr2]; · iexists _; iexact Hr2
    isplitl [HsemG]; · iexact HsemG
    isplitl [HsemC]; · iexact HsemC
    iexact Hsems
  isplitl [Ho2]; · iexact Ho2
  unfold owesGrown
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The chunks, one after another -/

/-- `owesGrown` with its waits named. -/
theorem owesGrown_open (d : Dev nD) (i : grid0.Coords) (O : CellTallies nD τ sig (HIx 1)) (W : Waits sig (HIx 1)) :
    (owesGrown (F := F) d i O W : sProp 𝕄) ⊢ iprop(∃ W', ⌜∀ p ∈ W', p ∈ W ∨ p.2 = none⌝ ∗ owes (thr d i) O W') := .rfl

/-- The waits a step grew, grown again by the next. -/
theorem owesGrown_mono (d : Dev nD) (i : grid0.Coords) (O : CellTallies nD τ sig (HIx 1)) {W W' : Waits sig (HIx 1)}
    (h : ∀ p ∈ W', p ∈ W ∨ p.2 = none) : (owesGrown (F := F) d i O W' : sProp 𝕄) ⊢ owesGrown d i O W := by
  unfold owesGrown
  iintro ⟨%W'', %h', HO⟩
  iexists W''; isplitr
  · ipureintro; exact fun p hp => (h' p hp).elim (h p) .inr
  · iexact HO

/-- The chunks of a list without repetition: each one's block goes from any contents to the block of the result. -/
theorem wp_chunks (d : Dev nD) (i : grid0.Coords) (hI : ∀ z, (I d z).toNat < 50000)
    (O : CellTallies nD τ sig (HIx 1)) (hO : ∀ g, O g none = 0) (l : List (Fin 25)) (hl : l.Nodup) (W : Waits sig (HIx 1)) :
    iprop(levAts (K (F := F)).L (K (F := F)).lev ∗ tools X I d i ∗ (bigSep l.toFinset fun j => oLoc d ↦[outSet i j]{fullShare} R d) ∗ owes (thr d i) O W)
      ⊢ wp frame (wpE (defs₀ (F := F)) 𝒱₀ (thr d i) none) Set.univ (chunks F i l)
          fun _ => iprop(tools X I d i ∗ (bigSep l.toFinset fun j => oLoc d ↦[outSet i j]{fullShare} G X I d) ∗ owesGrown d i O W) := by
  induction l generalizing W with
  | nil =>
    unfold chunks owesGrown
    iintro ⟨-, Ht, Hb, HO⟩
    rw [wp_pure]; imodintro
    isplitl [Ht]; · iexact Ht
    isplitl [Hb]; · iexact Hb
    iexists W; isplitr
    · ipureintro; exact fun p hp => .inl hp
    · iexact HO
  | cons j l ih =>
    obtain ⟨hj, hl⟩ := List.nodup_cons.mp hl
    have hj' : j ∉ l.toFinset := fun h => hj (List.mem_toFinset.mp h)
    rw [List.toFinset_cons, SparseCore.bigSep_insert' hj', SparseCore.bigSep_insert' hj']
    unfold chunks
    rw [wp_bind]
    iintro ⟨#Hlv, Ht, ⟨Hj, Hb⟩, HO⟩
    iapply (wp_wand_r Idealize.ShloMosaic.frame (wpE (defs₀ (F := F)) 𝒱₀ (thr d i) none) Set.univ)
    isplitl [Ht Hj HO]
    · iapply (wp_chunk X I R d i j hI O W hO)
      isplitr [Ht Hj HO]; · iexact Hlv
      isplitl [Ht]; · iexact Ht
      isplitl [Hj]; · iexact Hj
      iexact HO
    iintro %a ⟨Ht, Hj, HO⟩
    ihave HO1 := (owesGrown_open d i O W) $$ HO
    icases HO1 with ⟨%W', %hW', HO⟩
    iapply (wp_wand_r Idealize.ShloMosaic.frame (wpE (defs₀ (F := F)) 𝒱₀ (thr d i) none) Set.univ)
    isplitl [Ht Hb HO]
    · iapply (ih hl W')
      isplitr [Ht Hb HO]; · iexact Hlv
      isplitl [Ht]; · iexact Ht
      isplitl [Hb]; · iexact Hb
      iexact HO
    iintro %b ⟨Ht, Hb, HO⟩
    isplitl [Ht]; · iexact Ht
    isplitl [Hj Hb]
    · isplitl [Hj]; · iexact Hj
      iexact Hb
    iapply (owesGrown_mono d i O hW')
    iexact HO

/-! ## The fetch of the list -/

set_option maxHeartbeats 4000000 in
/-- The fetch: the subcore's list holds its part of the indices. -/
theorem wp_fetch (d : Dev nD) (i : grid0.Coords) (O : CellTallies nD τ sig (HIx 1)) (W : Waits sig (HIx 1)) (hO : ∀ g, O g none = 0) :
    iprop(levAts (K (F := F)).L (K (F := F)).lev ∗ (iLoc d ↦{tileShare i} I d) ∗ (∃ f, (sV).view.loc (thr d i) ↦{fullShare} f)
        ∗ semsZero d i ∗ owes (thr d i) O W)
      ⊢ wp frame (wpE (defs₀ (F := F)) 𝒱₀ (thr d i) none) Set.univ (fetch F i)
          fun _ => iprop((iLoc d ↦{tileShare i} I d) ∗ ((sV).view.loc (thr d i) ↦{fullShare} listOf (I d) i) ∗ semsZero d i ∗ owesGrown d i O W) := by
  unfold fetch
  rw [semsZero_one d i cc0_scoped0.sem]
  iintro ⟨#Hlv, Hi, ⟨%fs, Hs⟩, ⟨Hsem, Hsems⟩, HO⟩
  ihave Hmw := (show levAts (K (F := F)).L (K (F := F)).lev ⊢ Transfers.MayWaits (thr d i) (default : HIx 1) O from
    (K (F := F)).mayWaits_none (thr := thr d i) hO) $$ Hlv
  ihave Hi1 := (Entails.of_eq (show (iLoc d ↦{tileShare i} I d : sProp 𝕄) = (iV).view.loc (thr d i) ↦{tileShare i} I d from rfl)) $$ Hi
  sl_exec
  sl_step
  have hs : View.write (Elt F) (sV).view fs (wp_fetch.sl.dma0 I d i) Finset.univ = listOf (I d) i :=
    (View.write_whole_univ (Val := Elt F) cc0_scratch0 fs _).trans (read_idxK (I d) i)
  ihave Hs1 := (Entails.of_eq (congrArg (fun f => ((sV).view.loc (thr d i) ↦{fullShare} f : sProp 𝕄)) hs)) $$ Hs
  isplitl [Hi1]; · iexact Hi1
  isplitl [Hs1]; · iexact Hs1
  isplitl [Hsem Hsems]
  · isplitl [Hsem]; · iexact Hsem
    iexact Hsems
  unfold owesGrown
  iexists _; isplitr
  swap; · iexact HO
  ipureintro; intro p hp
  rcases Finset.mem_insert.mp hp with hp | hp; · exact .inr (hp ▸ rfl)
  exact .inl hp

/-! ## The whole task -/

/-- The order of the chunks goes over all of them. -/
theorem order_univ : order.toFinset = Finset.univ := by decide

/-- The subcore's DMA semaphores, among all the semaphores. -/
def dmaCell (d : Dev nD) (i : grid0.Coords) : DmaSem sig ↪ GSem nD τ sig :=
  ⟨fun k => (thr d i, SemLoc.dma k), fun _ _ h => SemLoc.dma.inj (Prod.ext_iff.mp h).2⟩

/-- The subcore's own semaphores: its DMA semaphores, and the others. -/
theorem ownSems0_dma (d : Dev nD) (i : grid0.Coords) :
    (ownSems0 (thr d i) : sProp 𝕄) = iprop(semsZero d i ∗ bigSep (ownCells (thr d i) \ Finset.univ.map (dmaCell d i)) fun g => semVal g 0) := by
  unfold SparseCore.Cfg.ownSems0
  have hsub : Finset.univ.map (dmaCell d i) ⊆ ownCells (thr d i) := fun g hg => by
    obtain ⟨k, -, rfl⟩ := Finset.mem_map.mp hg
    exact mem_ownCells.mpr ⟨rfl, (by decide : ∀ k : DmaSem sig, (SemLoc.dma k : SemLoc sig).isScoped .scVector = true) k⟩
  have hmap : (bigSep (Finset.univ.map (dmaCell d i)) fun g => semVal g 0 : sProp 𝕄) = semsZero d i := bigSep_map (dmaCell d i)
  rw [SparseCore.bigSep_sdiff_split' hsub, hmap]

/-- The subcore's own buffers: the list, the row buffer, each at some contents, and the others. -/
theorem ownBufs_two (d : Dev nD) (i : grid0.Coords) :
    (ownBufs (thr d i) : sProp 𝕄) = iprop((∃ f, (sV).view.loc (thr d i) ↦{fullShare} f) ∗ (∃ f, (rV).view.loc (thr d i) ↦{fullShare} f)
      ∗ bigSep (((ownRefs (τ := τ) (thr d i).2).erase ((thr d i).2.devRef cc0_scratch0)).erase ((thr d i).2.devRef cc0_scratch1))
          fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]

/-- The task of the subcore at `i`: what it is handed comes back with its blocks of the result holding the table's rows. -/
theorem tile_body (d : Dev nD) (i : grid0.Coords) (hF : (K (F := F)).Facts) (hI : ∀ z, (I d z).toNat < 50000)
    (O : CellTallies nD τ sig (HIx 1)) (W : Waits sig (HIx 1)) (hO : ∀ g, O g none = 0) :
    iprop(levAts (K (F := F)).L (K (F := F)).lev ∗ emp ∗ goRes X I R d i ∗ scopedBufs (thr d i) ∗ scopedSems0 (thr d i) ∗ owes (thr d i) O W)
      ⊢ wp frame (wpE (defs₀ (F := F)) 𝒱₀ (thr d i) none) Set.univ (bodyK F i)
          fun _ => iprop(tdRes X I d i ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d ((i 0).castLE hcore0) ((i 1).castLE hsub0),
    SparseCore.Cfg.scopedSems0_V (Val := Elt F) d ((i 0).castLE hcore0) ((i 1).castLE hsub0), ownSems0_dma, ownBufs_two, wp_bind]
  unfold goRes tdRes
  iintro ⟨#Hlv, -, ⟨⟨Hx, Hi⟩, Ho⟩, ⟨Hs, Hr, Hbufs⟩, ⟨Hsem, Hsems⟩, HO⟩
  iapply (wp_wand_r Idealize.ShloMosaic.frame (wpE (defs₀ (F := F)) 𝒱₀ (thr d i) none) Set.univ)
  isplitl [Hi Hs Hsem HO]
  · iapply (wp_fetch I d i O W hO)
    isplitr [Hi Hs Hsem HO]; · iexact Hlv
    isplitl [Hi]; · iexact Hi
    isplitl [Hs]; · iexact Hs
    isplitl [Hsem]; · iexact Hsem
    iexact HO
  iintro %a ⟨Hi, Hs, Hsem, HO⟩
  ihave HO1 := (owesGrown_open d i O W) $$ HO
  icases HO1 with ⟨%W', %hW', HO⟩
  iapply (wp_wand_r Idealize.ShloMosaic.frame (wpE (defs₀ (F := F)) 𝒱₀ (thr d i) none) Set.univ)
  isplitl [Hx Hs Hr Hsem Ho HO]
  · iapply (wp_chunks X I R d i hI O hO order (by decide) W')
    isplitr [Hx Hs Hr Hsem Ho HO]; · iexact Hlv
    isplitl [Hx Hs Hr Hsem]
    · unfold tools
      isplitl [Hx]; · iexact Hx
      isplitl [Hs]; · iexact Hs
      isplitl [Hr]; · iexact Hr
      iexact Hsem
    rw [order_univ]
    isplitl [Ho]; · iexact Ho
    iexact HO
  rw [order_univ]
  unfold tools
  iintro %b ⟨⟨Hx, Hs, Hr, Hsem⟩, Ho, HO⟩
  ihave HO2 := (owesGrown_mono d i O hW') $$ HO
  ihave HO3 := (owesGrown_open d i O W) $$ HO2
  isplitl [Hx Hi Ho]
  · isplitl [Hx Hi]
    · isplitl [Hx]; · iexact Hx
      iexact Hi
    iexact Ho
  isplitl [Hs Hr Hbufs]
  · isplitl [Hs]; · iexists _; iexact Hs
    isplitl [Hr]; · iexact Hr
    iexact Hbufs
  isplitl [Hsem Hsems]
  · isplitl [Hsem]; · iexact Hsem
    iexact Hsems
  iexact HO3

/-! ## The obligation of the subcores in the call -/

/-- The body the call starts on a subcore is the kernel's, at the subcore's grid point. -/
theorem defs₀_tile (c : Fin τ.nSC) (s : Fin τ.nSub) :
    defs₀ (F := F) (.scVector c s) 0 () = SparseCore.onTile hcore0 hsub0 (fun c s => bodyK F (coordsV c s)) ⟨⟩ c s := rfl

/-- A wait with no debt is one of the waits the call allows. -/
theorem waits_allowed {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %hW', HO⟩
  iexists W'; isplitr
  · ipureintro; exact fun p hp => (hW' p hp).imp_right Or.inl
  · iexact HO

set_option maxRecDepth 16384 in
/-- Every subcore does its task. -/
theorem tileObl (hF : (K (F := F)).Facts) (hI : ∀ d z, (I d z).toNat < 50000) : (K (F := F)).TileObl (D (F := F)) 𝒱 (P X I R) v₀ 0 := by
  intro d c s O W hO _ _
  simp only [show (P X I R).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_tile]; simp only [SparseCore.onTile, hcs, and_self, ↓reduceDIte]
  exact (tile_body X I R d (coordsV ⟨_, hcs.1⟩ ⟨_, hcs.2⟩) hF (hI d) O W hO).trans (wp_mono frame _ _ fun _ => waits_allowed)

end Cert.Proof.KernelIdeal

end
-- ==== Proof.KernelIdeal.Split.lean ====
/-
  The call's arrays, whole, are what its 32 subcores work on: the table and the list in read shares, the result in
  800 blocks of 128 rows, disjoint and covering it (`whole_eq`).
-/
module

public import proofs.«01_k».proof.Proof.KernelIdeal.Launch

@[expose] public section

noncomputable section

namespace Cert.Proof.KernelIdeal

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The blocks of the result: 25 for each of the 16 subcores of the 2 SparseCores. -/
abbrev Block : Type := Fin 2 × Fin 16 × Fin 25

/-- The elements of a block. -/
abbrev blockSet (t : Block) : Finset S102400x128.Idx := outSet (coordsV t.1 t.2.1) t.2.2

/-- A block is 128 whole rows. -/
theorem mem_blockSet (t : Block) (z : S102400x128.Idx) : z ∈ blockSet t ↔
    6400 * t.2.1.val + 3200 * t.1.val + 128 * t.2.2.val ≤ (z 0).val
      ∧ (z 0).val < 6400 * t.2.1.val + 3200 * t.1.val + 128 * t.2.2.val + 128 := by
  obtain ⟨c, s, j⟩ := t
  have hset : blockSet (c, s, j) = (Rect.unit (s := S102400x128) (k0_off2 (coordsV c s) (BitVec.ofNat 32 (128 * j.val))) S128x128.size
      (k0_off2_inb (coordsV c s) j)).set := View.set_slice_whole (main_v4_scv : Ref sig .scVector) _
  rw [hset, Rect.mem_set_unit]
  have h0 : k0_off2 (coordsV c s) (BitVec.ofNat 32 (128 * j.val)) 0 = 6400 * s.val + 3200 * c.val + 128 * j.val := by
    rw [k0_off2_eq]; rfl
  have h1 : k0_off2 (coordsV c s) (BitVec.ofNat 32 (128 * j.val)) 1 = 0 := by rw [k0_off2_eq]; rfl
  constructor
  · intro h; have := h 0; rw [h0] at this; exact this
  · intro h a
    match a with
    | 0 => rw [h0]; exact h
    | 1 => rw [h1]; exact ⟨Nat.zero_le _, (Nat.zero_add 128).symm ▸ (z 1).isLt⟩

/-- Two blocks share no row. -/
theorem blocks_disjoint : ∀ t ∈ (Finset.univ : Finset Block), ∀ t' ∈ (Finset.univ : Finset Block), t ≠ t' → Disjoint (blockSet t) (blockSet t') := by
  intro t _ t' _ hne
  refine Finset.disjoint_left.mpr fun z hz hz' => hne ?_
  rw [mem_blockSet] at hz hz'
  obtain ⟨⟨c, hc⟩, ⟨s, hs⟩, ⟨j, hj⟩⟩ := t
  obtain ⟨⟨c', hc'⟩, ⟨s', hs'⟩, ⟨j', hj'⟩⟩ := t'
  simp only at hz hz'
  have e1 : s = s' := by omega
  have e2 : c = c' := by omega
  have e3 : j = j' := by omega
  subst e1 e2 e3; rfl

/-- Every row is in a block. -/
theorem blocks_cover : (Finset.univ : Finset Block).biUnion blockSet = Finset.univ := by
  ext z
  simp only [Finset.mem_biUnion, Finset.mem_univ, true_and, iff_true]
  have hz : (z 0).val < 102400 := (z 0).isLt
  refine ⟨(⟨(z 0).val / 3200 % 2, by omega⟩, ⟨(z 0).val / 6400, by omega⟩, ⟨(z 0).val % 3200 / 128, by omega⟩), ?_⟩
  rw [mem_blockSet]
  simp only
  omega

/-- The result, whole, in its blocks. -/
theorem out_blocks (d : Dev nD) (f : Buf (Elt F) (oLoc d)) :
    (oLoc d ↦{fullShare} f : sProp 𝕄)
      = bigSep Finset.univ fun c : Fin 2 => bigSep Finset.univ fun s : Fin 16 => outPts d (coordsV c s) f := by
  have h : (oLoc d ↦{fullShare} f : sProp 𝕄) = bigSep Finset.univ fun t : Block => oLoc d ↦[blockSet t]{fullShare} f := by
    rw [← pointsTo_biUnion Finset.univ (ℓ := oLoc d) blockSet blocks_disjoint, blocks_cover]
  rw [h, bigSep_univ_prod]
  exact bigSep_congr fun c _ => bigSep_univ_prod (fun p : Fin 16 × Fin 25 => (oLoc d ↦[outSet (coordsV c p.1) p.2]{fullShare} f : sProp 𝕄))

/-- A buffer, whole, in the read shares of the subcores. -/
theorem read_shares (ℓ : Loc nD τ sig) (f : Buf (Elt F) ℓ) :
    (ℓ ↦{fullShare} f : sProp 𝕄)
      = bigSep Finset.univ fun c : Fin 2 => bigSep Finset.univ fun s : Fin 16 => ℓ ↦{tileShare (coordsV c s)} f := by
  rw [pointsTo_piecesOf Finset.univ f (by decide : 0 < 2) fullShare]
  exact bigSep_congr fun c _ => pointsTo_piecesOf Finset.univ f (by decide : 0 < 16) (coreShare c)

/-- Three resources, grouped. -/
theorem three_sep (A B C : sProp 𝕄) : iprop((A ∗ B) ∗ C) = iprop(A ∗ B ∗ C) := equiv_iff.mp ⟨BI.sep_assoc, BI.sep_assoc'⟩

/-- Two families over the subcores, held side by side. -/
theorem tiles_sep (Φ Ψ : Fin 2 → Fin 16 → sProp 𝕄) :
    iprop((bigSep Finset.univ fun c : Fin 2 => bigSep Finset.univ fun s : Fin 16 => Φ c s)
        ∗ (bigSep Finset.univ fun c : Fin 2 => bigSep Finset.univ fun s : Fin 16 => Ψ c s))
      = bigSep Finset.univ fun c : Fin 2 => bigSep Finset.univ fun s : Fin 16 => iprop(Φ c s ∗ Ψ c s) := by
  rw [show (fun c : Fin 2 => bigSep Finset.univ fun s : Fin 16 => iprop(Φ c s ∗ Ψ c s))
      = fun c : Fin 2 => iprop((bigSep Finset.univ fun s : Fin 16 => Φ c s) ∗ (bigSep Finset.univ fun s : Fin 16 => Ψ c s)) from
    funext fun c => BI.bigSep_sep _ _ _]
  exact (BI.bigSep_sep _ _ _).symm

variable (X : (d : Dev nD) → Buf (Elt F) (xLoc d)) (I : (d : Dev nD) → Buf (Elt F) (iLoc d))

/-- The call's three arrays, whole, are the subcores' parts of them. -/
theorem whole_eq (d : Dev nD) (f : Buf (Elt F) (oLoc d)) :
    (iprop((xLoc d ↦{fullShare} X d) ∗ (iLoc d ↦{fullShare} I d) ∗ (oLoc d ↦{fullShare} f)) : sProp 𝕄)
      = bigSep Finset.univ fun c : Fin 2 => bigSep Finset.univ fun s : Fin 16 =>
          iprop(readPts X I d (tileShare (coordsV c s)) ∗ outPts d (coordsV c s) f) := by
  rw [read_shares (xLoc d) (X d), read_shares (iLoc d) (I d), out_blocks d f]
  rw [← three_sep, tiles_sep, tiles_sep]

end Cert.Proof.KernelIdeal

end
-- ==== Proof.KernelIdeal.Host.lean ====
/-
  `@main`'s own operations: the five before the call, which make the list of row numbers, and the slice after it. What
  the device's arrays hold at the call, and at the end.
-/
module

public import proofs.«01_k».proof.Proof.KernelIdeal.Launch
public import proofs.«01_k».proof.Proof.KernelIdeal.Ids
public import Idealize.ShloMosaic.Lib.Pipeline.Frame

@[expose] public section

noncomputable section

namespace Cert.Proof.KernelIdeal

open Cert.KernelIdeal Cert.KernelIdeal.Gen

open Idealize.ShloMosaic
open Idealize.ShloMosaic.StableHlo (seq after held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type} [FloatOps F]

local notation "𝕄" => MT nD τ sig (HIx 1) (Elt F) ℕ UU ℕ

/-! ## The operations -/

/-- The operations before the call: column 0 of the second argument, flattened, with 2400 zeros after it. -/
def before : List (HloOp τ sig (Elt F)) :=
  [StableHlo.unary main_arg1 main_v0 ((extractStridedSlice S100000x1 ![0, 0] · slices_S100000x16_S100000x1_0_0) : (⟨S100000x16, .i32⟩ : BufTy).Contents (Elt F) → (⟨S100000x1, .i32⟩ : BufTy).Contents (Elt F)),
   StableHlo.reshape main_v0 main_v1 (rfl : (.i32 : EltTy) = .i32) shapeCasts_S100000x1_S100000,
   StableHlo.nullary main_c (constantI S_ 32 0#32),
   StableHlo.unary main_c main_v2 (broadcastInDim S2400 ![] bcast_S_S2400 : (⟨S_, .i32⟩ : BufTy).Contents (Elt F) → (⟨S2400, .i32⟩ : BufTy).Contents (Elt F)),
   StableHlo.binary main_v1 main_v2 main_v3 ((fun a b => concatenate S102400 0 [⟨S100000, a⟩, ⟨S2400, b⟩] concatenates_S100000_S2400_S102400_d0) : (⟨S100000, .i32⟩ : BufTy).Contents (Elt F) → (⟨S2400, .i32⟩ : BufTy).Contents (Elt F) → (⟨S102400, .i32⟩ : BufTy).Contents (Elt F))]

/-- The operation after the call: the first 100000 rows of its result. -/
def opOut : HloOp τ sig (Elt F) :=
  StableHlo.unary main_v4 main_v5 ((extractStridedSlice S100000x128 ![0, 0] · slices_S102400x128_S100000x128_0_0) : (⟨S102400x128, .f32⟩ : BufTy).Contents (Elt F) → (⟨S100000x128, .f32⟩ : BufTy).Contents (Elt F))

/-- `@main` is those five, the call, and that one. -/
theorem main_eq (d : Dev nD) :
    main (F := F) d = (seq before >>= fun _ => (sc (F := F)).run d 0 >>= fun _ => seq [opOut] >>= fun _ => pure ⟨⟩) := by
  rw [StableHlo.seq_bind_seqK, StableHlo.seq_bind_seqK]
  rfl

theorem before_bufs (op : HloOp τ sig (Elt F)) (h : op ∈ before (F := F)) : op.bufs ⊆ ucRefs τ sig := by
  refine Pipeline.sub_ucRefs op ?_
  simp only [before, List.mem_cons, List.not_mem_nil, or_false] at h
  rcases h with rfl | rfl | rfl | rfl | rfl
  · exact StableHlo.unary_bufs_sub _ _ _ _ _
  · exact StableHlo.reshape_bufs_sub _ _ _ _ _ _
  · exact StableHlo.nullary_bufs_sub _ _ _
  · exact StableHlo.unary_bufs_sub _ _ _ _ _
  · exact StableHlo.binary_bufs_sub _ _ _ _ _ _ _

theorem before_fresh (op : HloOp τ sig (Elt F)) (h : op ∈ before (F := F)) : op.fresh = ∅ := by
  simp only [before, List.mem_cons, List.not_mem_nil, or_false] at h
  rcases h with rfl | rfl | rfl | rfl | rfl <;> rfl

theorem out_bufs (op : HloOp τ sig (Elt F)) (h : op ∈ [opOut (F := F)]) : op.bufs ⊆ ucRefs τ sig := by
  obtain rfl := List.mem_singleton.mp h
  exact Pipeline.sub_ucRefs _ (StableHlo.unary_bufs_sub _ _ _ _ _)

theorem out_fresh (op : HloOp τ sig (Elt F)) (h : op ∈ [opOut (F := F)]) : op.fresh = ∅ := by
  obtain rfl := List.mem_singleton.mp h
  rfl

/-! ## What the arrays hold -/

variable (m : (ℓ : Loc nD τ sig) → Buf (Elt F) ℓ)

/-- The two arguments and the call's result at launch, on each device. -/
abbrev X₀ (d : Dev nD) : Buf (Elt F) (xLoc d) := m (xLoc d)
abbrev aLoc (d : Dev nD) : Loc nD τ sig := (SparseCore.T d).loc main_arg1
abbrev A₀ (d : Dev nD) : Buf (Elt F) (aLoc d) := m (aLoc d)
abbrev R₀ (d : Dev nD) : Buf (Elt F) (oLoc d) := m (oLoc d)
/-- The list of row numbers the call is given. -/
abbrev I₀ (d : Dev nD) : Buf (Elt F) (iLoc d) := ids (A₀ m d)
/-- Where `@main`'s result is. -/
abbrev rLoc (d : Dev nD) : Loc nD τ sig := (SparseCore.T d).loc main_v5

abbrev xRef : DevRef τ sig := Proc.devRef .tc (main_arg0 : Ref sig .tc)
abbrev aRef : DevRef τ sig := Proc.devRef .tc (main_arg1 : Ref sig .tc)
abbrev iRef : DevRef τ sig := Proc.devRef .tc (main_v3 : Ref sig .tc)
abbrev oRef : DevRef τ sig := Proc.devRef .tc (main_v4 : Ref sig .tc)
abbrev rRef : DevRef τ sig := Proc.devRef .tc (main_v5 : Ref sig .tc)

/-- What device `d`'s arrays hold at launch, at the call, and after it. -/
def atLaunch (d : Dev nD) : Valuation τ sig (Elt F) := fun b => m (d, b)
def atCall (d : Dev nD) : Valuation τ sig (Elt F) := after before (atLaunch m d)
def afterCall (d : Dev nD) : Valuation τ sig (Elt F) := Function.update (atCall m d) oRef (G (X₀ m) (I₀ m) d)
def atEnd (d : Dev nD) : Valuation τ sig (Elt F) := after [opOut] (afterCall m d)

theorem atCall_x (d : Dev nD) : atCall m d xRef = X₀ m d := by
  unfold atCall before; after_results; rfl
theorem atCall_a (d : Dev nD) : atCall m d aRef = A₀ m d := by
  unfold atCall before; after_results; rfl
theorem atCall_o (d : Dev nD) : atCall m d oRef = R₀ m d := by
  unfold atCall before; after_results; rfl
theorem atCall_i (d : Dev nD) : atCall m d iRef = I₀ m d := by
  unfold atCall before; after_results; rfl

theorem afterCall_x (d : Dev nD) : afterCall m d xRef = X₀ m d :=
  (Function.update_of_ne (show xRef ≠ oRef by decide) _ _).trans (atCall_x m d)
theorem afterCall_a (d : Dev nD) : afterCall m d aRef = A₀ m d :=
  (Function.update_of_ne (show aRef ≠ oRef by decide) _ _).trans (atCall_a m d)
theorem afterCall_i (d : Dev nD) : afterCall m d iRef = I₀ m d :=
  (Function.update_of_ne (show iRef ≠ oRef by decide) _ _).trans (atCall_i m d)
theorem afterCall_o (d : Dev nD) : afterCall m d oRef = G (X₀ m) (I₀ m) d := Function.update_self _ _ _

theorem atEnd_x (d : Dev nD) : atEnd m d xRef = X₀ m d := by
  refine Eq.trans ?_ (afterCall_x m d)
  unfold atEnd opOut; after_results
theorem atEnd_a (d : Dev nD) : atEnd m d aRef = A₀ m d := by
  refine Eq.trans ?_ (afterCall_a m d)
  unfold atEnd opOut; after_results
/-- At the end `@main`'s result array holds `result` of the two arguments. -/
theorem atEnd_r (d : Dev nD) : atEnd m d rRef = result (F := F) (X₀ m d) (A₀ m d) := by
  unfold atEnd opOut; after_results
  rw [show afterCall m d (Proc.devRef .tc main_v4) = G (X₀ m) (I₀ m) d from afterCall_o m d]
  rfl

/-! ## The arrays held, taken apart -/

/-- The arrays, with the call's three apart. -/
def callRefs : Finset (DevRef τ sig) := {xRef, iRef, oRef}
/-- The arrays, with the arguments and the result of `@main` apart. -/
def endRefs : Finset (DevRef τ sig) := {xRef, aRef, rRef}

theorem callRefs_sub : callRefs ⊆ ucRefs τ sig := by unfold callRefs; decide
theorem endRefs_sub : endRefs ⊆ ucRefs τ sig := by unfold endRefs; decide

theorem held_callRefs (d : Dev nD) (W : Valuation τ sig (Elt F)) :
    (held (SparseCore.T d) callRefs W : sProp 𝕄)
      = iprop((xLoc d ↦{fullShare} W xRef) ∗ (iLoc d ↦{fullShare} W iRef) ∗ (oLoc d ↦{fullShare} W oRef)) := by
  unfold held callRefs
  rw [SparseCore.bigSep_insert' (by decide), SparseCore.bigSep_insert' (by decide), bigSep_singleton]

theorem held_endRefs (d : Dev nD) (W : Valuation τ sig (Elt F)) :
    (held (SparseCore.T d) endRefs W : sProp 𝕄)
      = iprop((xLoc d ↦{fullShare} W xRef) ∗ (aLoc d ↦{fullShare} W aRef) ∗ (rLoc d ↦{fullShare} W rRef)) := by
  unfold held endRefs
  rw [SparseCore.bigSep_insert' (by decide), SparseCore.bigSep_insert' (by decide), bigSep_singleton]

/-- At the call: the call's three arrays, and the others. -/
theorem held_atCall (d : Dev nD) :
    (held (SparseCore.T d) (ucRefs τ sig) (atCall m d) : sProp 𝕄)
      = iprop(((xLoc d ↦{fullShare} X₀ m d) ∗ (iLoc d ↦{fullShare} I₀ m d) ∗ (oLoc d ↦{fullShare} R₀ m d))
          ∗ held (SparseCore.T d) (ucRefs τ sig \ callRefs) (atCall m d)) := by
  rw [StableHlo.held_sub_split _ callRefs_sub, held_callRefs, atCall_x, atCall_i, atCall_o]

/-- After it: its result at `G`, the others as they were. -/
theorem held_afterCall (d : Dev nD) :
    (held (SparseCore.T d) (ucRefs τ sig) (afterCall m d) : sProp 𝕄)
      = iprop(((xLoc d ↦{fullShare} X₀ m d) ∗ (iLoc d ↦{fullShare} I₀ m d) ∗ (oLoc d ↦{fullShare} G (X₀ m) (I₀ m) d))
          ∗ held (SparseCore.T d) (ucRefs τ sig \ callRefs) (atCall m d)) := by
  rw [StableHlo.held_sub_split _ callRefs_sub, held_callRefs, afterCall_x, afterCall_i, afterCall_o]
  refine congrArg (fun R => iprop(_ ∗ R)) (StableHlo.held_congr _ fun b hb => ?_)
  exact Function.update_of_ne (fun e => (Finset.mem_sdiff.mp hb).2 (by rw [e]; unfold callRefs; decide)) _ _

/-- At the end: the arguments as at launch, the result at `result`, and the others. -/
theorem held_atEnd (d : Dev nD) :
    (held (SparseCore.T d) (ucRefs τ sig) (atEnd m d) : sProp 𝕄)
      = iprop(((xLoc d ↦{fullShare} X₀ m d) ∗ (aLoc d ↦{fullShare} A₀ m d) ∗ (rLoc d ↦{fullShare} result (F := F) (X₀ m d) (A₀ m d)))
          ∗ held (SparseCore.T d) (ucRefs τ sig \ endRefs) (atEnd m d)) := by
  rw [StableHlo.held_sub_split _ endRefs_sub, held_endRefs, atEnd_x, atEnd_a, atEnd_r]

end Cert.Proof.KernelIdeal

end
-- ==== Proof.KernelIdeal.Main.lean ====
/-
  The program's run: `@main` on the TensorCore around the call, and the launch of every thread. It ends with the
  arguments unchanged, `@main`'s result at `result` of them, and every semaphore at zero.
-/
module

public import proofs.«01_k».proof.Proof.KernelIdeal.Tile
public import proofs.«01_k».proof.Proof.KernelIdeal.Split
public import proofs.«01_k».proof.Proof.KernelIdeal.Host

@[expose] public section

noncomputable section

namespace Cert.Proof.KernelIdeal

open Cert.KernelIdeal Cert.KernelIdeal.Gen

open Idealize.ShloMosaic
open Idealize.ShloMosaic.StableHlo (seq after held wp_seq)
open Idealize.ShloMosaic.Pipeline (ucRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- What the call's handshakes carry, from the launch memory. -/
abbrev P₀ : (K (F := F)).Pay (nD := nD) (Val := Elt F) (Name := ℕ) (U := UU) := P (X₀ m) (I₀ m) (R₀ m)

/-- What the call takes from `@main`, over its SparseCores: its three arrays. -/
theorem st_eq (d : Dev nD) :
    (bigSep Finset.univ fun c : Fin ((K (F := F)).nCore 0) => (P₀ m).st 0 d c)
      = iprop((xLoc d ↦{fullShare} X₀ m d) ∗ (iLoc d ↦{fullShare} I₀ m d) ∗ (oLoc d ↦{fullShare} R₀ m d)) :=
  (whole_eq (X₀ m) (I₀ m) d (R₀ m d)).symm

/-- What it gives back: the three arrays, its result at `G`. -/
theorem dn_eq (d : Dev nD) :
    (bigSep Finset.univ fun c : Fin ((K (F := F)).nCore 0) => (P₀ m).dn 0 d c)
      = iprop((xLoc d ↦{fullShare} X₀ m d) ∗ (iLoc d ↦{fullShare} I₀ m d) ∗ (oLoc d ↦{fullShare} G (X₀ m) (I₀ m) d)) :=
  (whole_eq (X₀ m) (I₀ m) d (G (X₀ m) (I₀ m) d)).symm

/-- What `@main` leaves the claims: the arguments as at launch, its result at `result`. -/
abbrev FIN (d : Dev nD) : sProp 𝕄 :=
  iprop((xLoc d ↦{fullShare} X₀ m d) ∗ (aLoc d ↦{fullShare} A₀ m d) ∗ (rLoc d ↦{fullShare} result (F := F) (X₀ m d) (A₀ m d)))

/-- `@main` on device `d`'s TensorCore: the operations before the call, the call, the slice after it. -/
theorem hmain (κ : GSem nD τ sig → ℕ) (d : Dev nD) :
    iprop((K (F := F)).ctx EH (P₀ m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
    = held (SparseCore.T d) (ucRefs τ sig) (atLaunch m d) from Pipeline.unscopedBufs_held d (atLaunch m d)]
  iintro ⟨#Hctx, Hst, ⟨Hb, Hheld, Hts, -⟩, -⟩
  iapply (wp_seq 𝒱 none Set.univ d (ucRefs τ sig) _ before before_bufs before_fresh (atLaunch m d)) $$ [Hb Hheld]
  · isplitl [Hb] <;> iassumption
  iintro ⟨Hb, Hheld⟩
  ihave Hh := (show held (SparseCore.T d) (ucRefs τ sig) (after before (atLaunch m d)) ⊢ _ from Entails.of_eq (held_atCall m d)) $$ Hheld
  icases Hh with ⟨Hcall, Hrest⟩
  simp only [wp_bind]
  iapply ((K (F := F)).wp_run (D (F := F)) 𝒱 (EH := EH) (P := P₀ m) κ d 0) $$ [Hst Hcall Hb Hrest Hts]
  isplitr; · iexact Hctx
  isplitl [Hst]; · iexact Hst
  isplitl [Hcall]
  · iapply (Entails.of_eq (st_eq m d).symm); iexact Hcall
  iintro ⟨Hst, Hdn⟩
  ihave Hcall := (Entails.of_eq (dn_eq m d)) $$ Hdn
  simp only [← wp_bind]
  iapply (wp_seq 𝒱 none Set.univ d (ucRefs τ sig) _ [opOut] out_bufs out_fresh (afterCall m d)) $$ [Hb Hcall Hrest]
  · isplitl [Hb]; · iexact Hb
    iapply (Entails.of_eq (held_afterCall m d).symm)
    isplitl [Hcall] <;> iassumption
  iintro ⟨Hb, Hheld⟩
  ihave Hh := (show held (SparseCore.T d) (ucRefs τ sig) (after [opOut] (afterCall m d)) ⊢ _ from Entails.of_eq (held_atEnd m d)) $$ Hheld
  icases Hh with ⟨Hfin, -⟩
  rw [wp_pure]; imodintro
  isplitl [Hst]; · iexact Hst
  isplitl [Hfin]; · iexact Hfin
  isplitl [Hb] <;> iassumption

/-- What the claims read of device `d`'s final memory. -/
def fq (d : Dev nD) (s' : Phys nD τ sig (Elt F)) : Prop :=
  s'.mem.mem (xLoc d) = X₀ m d ∧ s'.mem.mem (aLoc d) = A₀ m d ∧ s'.mem.mem (rLoc d) = result (F := F) (X₀ m d) (A₀ m d)

/-- An array held whole is what the memory holds. -/
theorem whole_agree (s' : Phys nD τ sig (Elt F)) (ℓ : Loc nD τ sig) (f : Buf (Elt F) ℓ) (R : sProp 𝕄) :
    iprop(((ℓ ↦{fullShare} f) ∗ R) ∗ SI s') ⊢ iprop(⌜s'.mem.mem ℓ = f⌝ ∗ R ∗ SI s') := by
  iintro ⟨⟨Hp, HR⟩, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  isplitl [HR] <;> iassumption

theorem hfin (d : Dev nD) (s' : Phys nD τ sig (Elt F)) : iprop(FIN m d ∗ SI s') ⊢ (⌜fq m d s'⌝ : sProp 𝕄) := by
  iintro H
  ihave H := (whole_agree s' (xLoc d) _ _) $$ H
  icases H with ⟨%hx, H⟩
  ihave H := (whole_agree s' (aLoc d) _ _) $$ H
  icases H with ⟨%ha, Hr, HSI⟩
  ihave H := (whole_agree s' (rLoc d) _ iprop(emp)) $$ [Hr HSI]
  · isplitl [Hr]
    · isplitl [Hr]; · iexact Hr
      iempintro
    iexact HSI
  icases H with ⟨%hr, -⟩
  ipureintro; exact ⟨hx, ha, hr⟩

/-! ## The launch -/

/-- The resources' first state: the handshakes' cells and tokens. -/
def u₀ : UU := (initOf (K (F := F)).hsCells (K (F := F)).hsToks, 1)

omit [FloatOps F] in
theorem emps {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P₀ m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P₀ (F := F) m).x q thr)
      = bigSep Finset.univ fun _ => iprop(emp) from bigSep_congr fun _ _ => emps _, emps]
  iempintro

/-- What the program's run ends with: on every device the arguments as at launch and `@main`'s result at `result` of
    them, and every semaphore at zero. -/
def QC : PUnit × MemSt nD τ sig (Elt F) → Prop := fun r =>
  (∀ c : Dev nD, r.2.mem (xLoc c) = X₀ m c ∧ r.2.mem (aLoc c) = A₀ m c ∧ r.2.mem (rLoc c) = result (F := F) (X₀ m c) (A₀ m c))
    ∧ r.2.sem = fun _ => 0

/-- The program, when column 0 of its second argument names rows of the table: it ends as `QC` says. -/
theorem run_main [∀ e, Nonempty (Elt F e)] (hrows : ∀ (d : Dev nD) (r : Fin 100000), (A₀ m d (colAt r)).toNat < 50000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P₀ m) (A := ∅) facts v₀
    (fun q hq => match q with | 0 => nomatch hq)
    (fun q _ => match q with | 0 => tileObl (X₀ m) (I₀ m) (R₀ m) facts fun d z => ids_lt (A₀ m d) (hrows d) z)
    (fun q _ => match q with | 0 => SparseCore.Cfg.VecSplit.of_plain (vecSplit (X₀ m) (I₀ m) (R₀ m)))
    m ρ main (fun _ => iprop(emp)) (FIN m) (u₀ (F := F)) (sep_elim_left.trans (hu₀ m)) (hmain m ρ) (fq m) (hfin m) (QC m)
    (fun _ h hz => ⟨h, hz⟩)

end Cert.Proof.KernelIdeal

end
-- ==== Proof.lean ====
/-
  Everything the certificate claims: the kernel, its idealization and the reference each run to their end with their
  arguments unchanged and every semaphore at zero; the idealization rewrites nothing; and its result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_rows
public import proofs.«01_k».proof.Proof.Pre
public import proofs.«01_k».proof.Proof.Reference
public import proofs.«01_k».proof.Proof.Equation
public import proofs.«01_k».proof.Proof.Kernel.Main
public import proofs.«01_k».proof.Proof.KernelIdeal.Main
public import Idealize.ShloMosaic.Lib.Quiescent
public import Idealize.ShloMosaic.Adequacy
public import Idealize.ShloMosaic.Init

@[expose] public section

noncomputable section

namespace Cert.Proof

open Idealize.ShloMosaic Idealize.SL.Sem

/-- The kernel's program ends, its arguments unchanged and every semaphore at zero. -/
theorem frame_kernel : Cert.quiescent_Kernel := fun m ρ hpre =>
  (θ_run Cert.Kernel.defs _ _).mono (fun _ h => ⟨fun c => ⟨(h.1 c).1, (h.1 c).2.1⟩, h.2⟩)
    (Kernel.run_main (F := Bits) m ρ fun d r => rows_of_pre _ _ (hpre d) r)

/-- So does its idealization. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (KernelIdeal.run_main (F := Ideal) m ρ fun d r => rows_of_pre _ _ (hpre d) r)

/-- So does the reference, at any arguments. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- The idealization's result is the reference's, element by element. -/
theorem value : Cert.algebraic_KernelIdeal_ReferenceIdeal := fun m g m' g' hpre hagree => by
  refine ⟨fun c => KernelIdeal.result (F := Ideal) (m (KernelIdeal.xLoc c)) (m (KernelIdeal.aLoc c)), ?_, ?_⟩
  · exact (θ_run Cert.KernelIdeal.defs _ _).mono (fun _ h c => ⟨(h.1 c).2.2, (h.1 c).1, (h.1 c).2.1⟩)
      (KernelIdeal.run_main (F := Ideal) m g fun d r => rows_of_pre _ _ (hpre d) r)
  · refine (θ_run Cert.ReferenceIdeal.defs _ _).mono (fun _ h c => ⟨(h c).1.trans ?_, (h c).2.1, (h c).2.2⟩)
      (Cert.ReferenceIdeal.Value.run (F := Ideal) m' g')
    rw [(hagree c).1, (hagree c).2]
    exact (result_eq_out (F := Ideal) _ _ fun r => rows_of_pre _ _ (hpre c) r).symm

/-- Everything claimed. -/
theorem claim : Cert.Claim := ⟨Cert.Kernel.Gen.facts, Cert.KernelIdeal.Gen.facts, Cert.ReferenceIdeal.Gen.facts, Cert.Pre_idx_in_rows.Gen.facts,
  frame_kernel, frame_kernelIdeal, frame_reference, fun m g _ => frame_reference m g trivial, trivial, value⟩

end Cert.Proof

end
